-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  bcast_S_S10000x10000 : S_.BroadcastsInDim S10000x10000 (![] : Fin 0 → Fin S10000x10000.rank)
  bcast_S_S3x128x128 : S_.BroadcastsInDim S3x128x128 (![] : Fin 0 → Fin S3x128x128.rank)
  bcast_S_S128 : S_.BroadcastsInDim S128 (![] : Fin 0 → Fin S128.rank)
  bcast_S_S3x128x64 : S_.BroadcastsInDim S3x128x64 (![] : Fin 0 → Fin S3x128x64.rank)
  bcast_S_S64 : S_.BroadcastsInDim S64 (![] : Fin 0 → Fin S64.rank)

variable [Facts]

def fn {F : FTy → Type} [FloatOps F] (main_arg0 : FVec F S10000x128 .f32) (main_arg1 : FVec F S10000x10000 .f32) (main_arg2 : FVec F S3x128x128 .f32) (main_arg3 : FVec F S128 .f32) (main_arg4 : FVec F S3x128x64 .f32) (main_arg5 : FVec F S64 .f32) : IVec S10000x128 1 × IVec S10000x10000 1 × IVec S3x128x128 1 × IVec S128 1 × IVec S3x128x64 1 × IVec S64 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S10000x10000 .f32 := Host.absf main_arg1
  let main_cst_0 : FVec F S_ .f32 := constant S_ .f32 0x7F800000#32
  let main_v4 : FVec F S10000x10000 .f32 := broadcastInDim S10000x10000 ![] bcast_S_S10000x10000 main_cst_0
  let main_v5 : IVec S10000x10000 1 := cmpf .olt main_v3 main_v4
  let main_v6 : FVec F S3x128x128 .f32 := Host.absf main_arg2
  let main_cst_1 : FVec F S_ .f32 := constant S_ .f32 0x7F800000#32
  let main_v7 : FVec F S3x128x128 .f32 := broadcastInDim S3x128x128 ![] bcast_S_S3x128x128 main_cst_1
  let main_v8 : IVec S3x128x128 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S3x128x64 .f32 := Host.absf main_arg4
  let main_cst_3 : FVec F S_ .f32 := constant S_ .f32 0x7F800000#32
  let main_v13 : FVec F S3x128x64 .f32 := broadcastInDim S3x128x64 ![] bcast_S_S3x128x64 main_cst_3
  let main_v14 : IVec S3x128x64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  (main_v2, main_v5, main_v8, main_v11, main_v14, main_v17)
-- ==== Kernel.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x128 : Shape := ⟨2, ![400, 128]⟩
abbrev S400x64 : Shape := ⟨2, ![400, 64]⟩
abbrev S1x128x128 : Shape := ⟨3, ![1, 128, 128]⟩
abbrev S128x128 : Shape := ⟨2, ![128, 128]⟩
abbrev S1x128x64 : Shape := ⟨3, ![1, 128, 64]⟩
abbrev S128x64 : Shape := ⟨2, ![128, 64]⟩
abbrev S400 : Shape := ⟨1, ![400]⟩
abbrev S400x1 : Shape := ⟨2, ![400, 1]⟩

abbrev nBuf : Space → Nat
  | .hbm => 14
  | .vmem => 36
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x128, .f32⟩
  | .hbm, ⟨3, _⟩ => ⟨S128, .f32⟩
  | .hbm, ⟨4, _⟩ => ⟨S3x128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x128, .f32⟩
  | .hbm, ⟨9, _⟩ => ⟨S10000x128, .f32⟩
  | .hbm, ⟨10, _⟩ => ⟨S10000x64, .f32⟩
  | .hbm, ⟨11, _⟩ => ⟨S10000x64, .f32⟩
  | .hbm, ⟨12, _⟩ => ⟨S10000x64, .f32⟩
  | .hbm, ⟨13, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S400x10000, .f32⟩
  | .local _ .vmem, ⟨6, _⟩ => ⟨S400x10000, .f32⟩
  | .local _ .vmem, ⟨7, _⟩ => ⟨S10000x128, .f32⟩
  | .local _ .vmem, ⟨8, _⟩ => ⟨S400x128, .f32⟩
  | .local _ .vmem, ⟨9, _⟩ => ⟨S400x128, .f32⟩
  | .local _ .vmem, ⟨10, _⟩ => ⟨S400x128, .f32⟩
  | .local _ .vmem, ⟨11, _⟩ => ⟨S400x128, .f32⟩
  | .local _ .vmem, ⟨12, _⟩ => ⟨S3x128x128, .f32⟩
  | .local _ .vmem, ⟨13, _⟩ => ⟨S1x128, .f32⟩
  | .local _ .vmem, ⟨14, _⟩ => ⟨S3x128x64, .f32⟩
  | .local _ .vmem, ⟨15, _⟩ => ⟨S400x128, .f32⟩
  | .local _ .vmem, ⟨16, _⟩ => ⟨S400x128, .f32⟩
  | .local _ .vmem, ⟨17, _⟩ => ⟨S400x64, .f32⟩
  | .local _ .vmem, ⟨18, _⟩ => ⟨S400x64, .f32⟩
  | .local _ .vmem, ⟨19, _⟩ => ⟨S400x10000, .f32⟩
  | .local _ .vmem, ⟨20, _⟩ => ⟨S400x10000, .f32⟩
  | .local _ .vmem, ⟨21, _⟩ => ⟨S10000x128, .f32⟩
  | .local _ .vmem, ⟨22, _⟩ => ⟨S400x64, .f32⟩
  | .local _ .vmem, ⟨23, _⟩ => ⟨S400x64, .f32⟩
  | .local _ .vmem, ⟨24, _⟩ => ⟨S400x64, .f32⟩
  | .local _ .vmem, ⟨25, _⟩ => ⟨S400x64, .f32⟩
  | .local _ .vmem, ⟨26, _⟩ => ⟨S400x10000, .f32⟩
  | .local _ .vmem, ⟨27, _⟩ => ⟨S400x10000, .f32⟩
  | .local _ .vmem, ⟨28, _⟩ => ⟨S10000x64, .f32⟩
  | .local _ .vmem, ⟨29, _⟩ => ⟨S400x64, .f32⟩
  | .local _ .vmem, ⟨30, _⟩ => ⟨S400x64, .f32⟩
  | .local _ .vmem, ⟨31, _⟩ => ⟨S400x64, .f32⟩
  | .local _ .vmem, ⟨32, _⟩ => ⟨S400x64, .f32⟩
  | .local _ .vmem, ⟨33, _⟩ => ⟨S1x64, .f32⟩
  | .local _ .vmem, ⟨34, _⟩ => ⟨S400x64, .f32⟩
  | .local _ .vmem, ⟨35, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3_0 : Ref sig .tc := ⟨.hbm, 9, rfl⟩
abbrev main_call0_v3_1 : Ref sig .tc := ⟨.hbm, 10, rfl⟩
abbrev main_call0_v4_0 : Ref sig .tc := ⟨.hbm, 11, rfl⟩
abbrev main_call0_v4_1 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S3x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S400x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S400x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S_ : Shape := ⟨0, ![]⟩
abbrev S1x10000x128 : Shape := ⟨3, ![1, 10000, 128]⟩
abbrev S3x10000x128 : Shape := ⟨3, ![3, 10000, 128]⟩
abbrev S1x128 : Shape := ⟨2, ![1, 128]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 52
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x128, .f32⟩
  | .hbm, ⟨3, _⟩ => ⟨S128, .f32⟩
  | .hbm, ⟨4, _⟩ => ⟨S3x128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S1x10000x128, .f32⟩
  | .hbm, ⟨13, _⟩ => ⟨S1x10000x128, .f32⟩
  | .hbm, ⟨14, _⟩ => ⟨S1x10000x128, .f32⟩
  | .hbm, ⟨15, _⟩ => ⟨S3x10000x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S1x10000x128, .f32⟩
  | .hbm, ⟨30, _⟩ => ⟨S1x10000x128, .f32⟩
  | .hbm, ⟨31, _⟩ => ⟨S1x10000x128, .f32⟩
  | .hbm, ⟨32, _⟩ => ⟨S3x10000x128, .f32⟩
  | .hbm, ⟨33, _⟩ => ⟨S10000x64, .f32⟩
  | .hbm, ⟨34, _⟩ => ⟨S1x64, .f32⟩
  | .hbm, ⟨35, _⟩ => ⟨S10000x64, .f32⟩
  | .hbm, ⟨36, _⟩ => ⟨S10000x64, .f32⟩
  | .hbm, ⟨37, _⟩ => ⟨S_, .f32⟩
  | .hbm, ⟨38, _⟩ => ⟨S10000, .f32⟩
  | .hbm, ⟨39, _⟩ => ⟨S_, .f32⟩
  | .hbm, ⟨40, _⟩ => ⟨S10000, .f32⟩
  | .hbm, ⟨41, _⟩ => ⟨S10000, .f32⟩
  | .hbm, ⟨42, _⟩ => ⟨S10000x1, .f32⟩
  | .hbm, ⟨43, _⟩ => ⟨S10000x64, .f32⟩
  | .hbm, ⟨44, _⟩ => ⟨S10000x64, .f32⟩
  | .hbm, ⟨45, _⟩ => ⟨S10000x64, .f32⟩
  | .hbm, ⟨46, _⟩ => ⟨S_, .f32⟩
  | .hbm, ⟨47, _⟩ => ⟨S10000, .f32⟩
  | .hbm, ⟨48, _⟩ => ⟨S10000x1, .f32⟩
  | .hbm, ⟨49, _⟩ => ⟨S10000x1, .f32⟩
  | .hbm, ⟨50, _⟩ => ⟨S10000x64, .f32⟩
  | .hbm, ⟨51, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_cst : Ref sig .tc := ⟨.hbm, 37, rfl⟩
abbrev main_call1_v0 : Ref sig .tc := ⟨.hbm, 38, rfl⟩
abbrev main_call1_cst_0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_cst_1 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_v27 : Ref sig .tc := ⟨.hbm, 51, rfl⟩

abbrev nD : Nat := 1
abbrev τ : Topo := Topo.v7x

variable {F : FTy → Type} [FloatOps F]
-- ==== Proof.KernelRun.lean ====
/-
  The kernel's launch, read at its result: every execution terminates with the result array at the contents the fold
  through the four passes gives it, and with the argument arrays as launched.
-/
module

public import proofs.«01_k».proof.Proof.Gen.KernelIdeal.Frame

@[expose] public section

noncomputable section

namespace Cert.KernelIdeal.ChebRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

-- the launch theorem's implicit arguments are found by unifying types up to plain definitions
set_option backward.isDefEq.respectTransparency.types false in
/-- Every execution of the kernel's program ends with EVERY unscoped buffer at the last boundary's contents `W5`. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- The run read at the result and the arguments: the result at what the fourth pass's write-backs leave in its array,
    the arguments as launched. -/
theorem run : θ_run defs (onTc (τ := τ) (main (F := F))) ⟨m, fun _ => 0, ρ⟩ (fun r => ∀ c : Dev nD,
      r.2.mem ((c : Thread nD τ).loc main_v0) = (dat3 (V4 m ρ) c).arrAt 5 cfg3.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) := by
  refine (θ_run defs _ _).mono (fun r h c => ?_) (run_buffers m ρ)
  have at_ref (b : Ref sig .tc) (hb : ¬ (Proc.devRef .tc b : DevRef τ sig).isScoped) := h c _ (mem_uc b hb)
  have at_arg (b : Ref sig .tc) (hb : ¬ (Proc.devRef .tc b : DevRef τ sig).isScoped) (ha : b ∈ argRefs) :=
    (at_ref b hb).trans (W5_args m ρ c b ha)
  exact ⟨(at_ref main_v0 (by decide)).trans (W5_arr m ρ c 5), at_arg _ (by decide) (by decide), at_arg _ (by decide) (by decide),
    at_arg _ (by decide) (by decide), at_arg _ (by decide) (by decide), at_arg _ (by decide) (by decide),
    at_arg _ (by decide) (by decide)⟩

end Cert.KernelIdeal.ChebRun

end
-- ==== Proof.Spec.lean ====
/-
  What each pass of the kernel is to leave in its arrays, as plain sums over the extended reals.
-/
module

public import proofs.«01_k».proof.Proof.Gen.KernelIdeal
public import Idealize.ShloMosaic.PureOps.Ideal
public import Idealize.ShloMosaic.Lib.Pipeline.ValueKit

@[expose] public section

set_option maxRecDepth 16384

noncomputable section

namespace Cert.KernelIdeal.Cheb

open Cert.KernelIdeal Idealize.ShloMosaic

/-- Pass 1: `T₁ = G · X`. -/
def t1 (X : FVec Ideal S10000x128 .f32) (G : FVec Ideal S10000x10000 .f32) : FVec Ideal S10000x128 .f32 :=
  fun i => ∑ k : Fin 10000, G (ix2 (i 0) k) * X (ix2 k (i 1))

/-- Pass 2, the hidden layer: `relu (X·W₀ + T·W₁ + (2·(G·T) − X)·W₂ + b)`, the bias a one-row array. -/
def hid (X : FVec Ideal S10000x128 .f32) (G : FVec Ideal S10000x10000 .f32) (T : FVec Ideal S10000x128 .f32)
    (W : FVec Ideal S3x128x128 .f32) (B : FVec Ideal S1x128 .f32) : FVec Ideal S10000x128 .f32 :=
  fun i => max ((((∑ k : Fin 128, X (ix2 (i 0) k) * W (ix3 (0 : Fin 3) k (i 1)))
      + ∑ k : Fin 128, T (ix2 (i 0) k) * W (ix3 (1 : Fin 3) k (i 1)))
      + ∑ k : Fin 128, (Ideal.ofBits .f32 0x40000000#32 * (∑ l : Fin 10000, G (ix2 (i 0) l) * T (ix2 l k)) - X (ix2 (i 0) k)) * W (ix3 (2 : Fin 3) k (i 1)))
      + B (ix2 (0 : Fin 1) (i 1))) 0

/-- Pass 2, first result: `H·W₁` in the first 64 columns and `H·W₂` in the last 64. -/
def ab (H : FVec Ideal S10000x128 .f32) (W : FVec Ideal S3x128x64 .f32) : FVec Ideal S10000x128 .f32 :=
  fun i => if h : (i 1 : Nat) < 64 then ∑ k : Fin 128, H (ix2 (i 0) k) * W (ix3 (1 : Fin 3) k ⟨i 1, h⟩)
    else ∑ k : Fin 128, H (ix2 (i 0) k) * W (ix3 (2 : Fin 3) k ⟨(i 1 : Nat) - 64, by have := (i 1).isLt; change (i 1 : Nat) < 128 at this; omega⟩)

/-- Pass 2, second result: `H·(W₀ − W₂)`. -/
def d2 (H : FVec Ideal S10000x128 .f32) (W : FVec Ideal S3x128x64 .f32) : FVec Ideal S10000x64 .f32 :=
  fun i => ∑ k : Fin 128, H (ix2 (i 0) k) * (W (ix3 (0 : Fin 3) k (i 1)) - W (ix3 (2 : Fin 3) k (i 1)))

/-- Pass 3, first result: the first 64 columns of `G · A`. -/
def u2a (A : FVec Ideal S10000x128 .f32) (G : FVec Ideal S10000x10000 .f32) : FVec Ideal S10000x64 .f32 :=
  fun i => ∑ k : Fin 10000, G (ix2 (i 0) k) * A (ix2 k ⟨i 1, lt_trans (i 1).isLt (by decide)⟩)

/-- Pass 3, second result: the last 64 columns of `G · A`. -/
def u2b (A : FVec Ideal S10000x128 .f32) (G : FVec Ideal S10000x10000 .f32) : FVec Ideal S10000x64 .f32 :=
  fun i => ∑ k : Fin 10000, G (ix2 (i 0) k) * A (ix2 k ⟨64 + (i 1 : Nat), by have := (i 1).isLt; change (i 1 : Nat) < 64 at this; omega⟩)

/-- Pass 4, the logits: `(D + A) + 2·(G·U) + b`, the bias a one-row array. -/
def logit (G : FVec Ideal S10000x10000 .f32) (U A D : FVec Ideal S10000x64 .f32) (B : FVec Ideal S1x64 .f32) : FVec Ideal S10000x64 .f32 :=
  fun i => ((D i + A i) + Ideal.ofBits .f32 0x40000000#32 * (∑ k : Fin 10000, G (ix2 (i 0) k) * U (ix2 k (i 1)))) + B (ix2 (0 : Fin 1) (i 1))

/-- The largest entry of a row, from `-∞` upwards. -/
def rowMax (L : FVec Ideal S10000x64 .f32) (r : Fin 10000) : EReal :=
  (Finset.univ : Finset (Fin 64)).fold max (Ideal.ofBits .f32 0xFF800000#32) fun k => L (ix2 r k)

/-- Pass 4, the result: `L - (log (Σ exp (L - m)) + m)` with `m` the row's maximum. -/
def lsm (L : FVec Ideal S10000x64 .f32) : FVec Ideal S10000x64 .f32 :=
  fun i => L i - (Ideal.log (∑ k : Fin 64, Ideal.exp (L (ix2 (i 0) k) - rowMax L (i 0))) + rowMax L (i 0))

end Cert.KernelIdeal.Cheb

end
-- ==== Proof.Region0.lean ====
/-
  Pass 1: after its 25 points the first intermediate array holds `G · X`.
-/
module

public import proofs.«01_k».proof.Proof.Gen.KernelIdeal.Frame
public import proofs.«01_k».proof.Proof.Spec

@[expose] public section

set_option maxRecDepth 16384

noncomputable section

namespace Cert.KernelIdeal.Cheb

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block sits at each of the 25 points: a row stripe, or the whole array. -/
theorem idx0 : ∀ t : Fin cfg0.N, win0_0.index t = ![t.val, 0] ∧ win0_1.index t = ![0, 0] ∧ win0_2.index t = ![t.val, 0] :=
  (by decide +kernel : ∀ t : Fin grid0.N, _)

/-- What a point stores, entry by entry, is the product's entry at the place of the block. -/
theorem point0 (c : Dev nD) (t : Fin cfg0.N) (y) : k0_pay1 (iblk0 V c 0 t) (iblk0 V c 1 t) y
    = t1 (V c main_arg0) (V c main_arg1) (((cfg0.win 2).blk t).view.emb y) := by
  pointwise [k0_pay1, t1]
  blk_point [iblk0, idx0 t]

/-- The first intermediate array after pass 1. -/
theorem final0 (c : Dev nD) : (dat0 V c).arrAt 2 cfg0.N = t1 (V c main_arg0) (V c main_arg1) := by
  refine (dat0 V c).arrAt_eq_of_covers 2 _ (by decide +kernel) fun t _ y => ?_
  blk_simp
  rw [after0_2]; frame_out
  exact point0 V c t y

end Cert.KernelIdeal.Cheb

end
-- ==== Proof.Region1.lean ====
/-
  Pass 2: the two arrays that hold the hidden layer times the second layer's weights.
-/
module

public import proofs.«01_k».proof.Proof.Gen.KernelIdeal.Frame
public import proofs.«01_k».proof.Proof.Spec

@[expose] public section

set_option maxRecDepth 16384

noncomputable section

namespace Cert.KernelIdeal.Cheb

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block sits at each of the 25 points: a row stripe, or the whole array. -/
theorem idx1 : ∀ t : Fin cfg1.N, win1_0.index t = ![t.val, 0] ∧ win1_1.index t = ![0, 0] ∧ win1_2.index t = ![t.val, 0] ∧ win1_3.index t = ![t.val, 0]
    ∧ win1_4.index t = ![0, 0, 0] ∧ win1_5.index t = ![0, 0] ∧ win1_6.index t = ![0, 0, 0] ∧ win1_7.index t = ![t.val, 0] ∧ win1_8.index t = ![t.val, 0] :=
  (by decide +kernel : ∀ t : Fin grid1.N, _)

/-- The hidden layer over the arrays that pass 2 reads. -/
abbrev hidV (c : Dev nD) : FVec Ideal S10000x128 .f32 :=
  hid (V c main_arg0) (V c main_arg1) (V c main_call0_v2) (V c main_arg2) (V c main_call0_v0)

/-- What a point stores in the second array: its rows of the hidden layer times `W₀ − W₂`. -/
theorem point1d (c : Dev nD) (t : Fin cfg1.N) (y) :
    k1_pay2 (F := Ideal) (k1_pay5 (iblk1 V c 0 t) (iblk1 V c 1 t) (iblk1 V c 2 t) (iblk1 V c 3 t) (iblk1 V c 4 t) (iblk1 V c 5 t) (iblk1 V c 6 t))
      (View.ld (iblk1 V c 6 t) r1_11) (View.ld (iblk1 V c 6 t) r1_9) y
    = d2 (hidV V c) (V c main_arg4) (((cfg1.win 8).blk t).view.emb y) := by
  pointwise [k1_pay2, d2, k1_pay5, k1_pay3, hidV, hid]
  blk_point [iblk1, idx1 t]

/-- What a point stores in the last 64 columns of the first array. -/
theorem point1hi (c : Dev nD) (t : Fin cfg1.N) (i : S400x64.Idx) (j : S10000x128.Idx)
    (h0 : (j 0 : ℕ) = t.val * 400 + i 0) (h1 : (j 1 : ℕ) = 64 + i 1) :
    k1_pay1 (F := Ideal) (k1_pay5 (iblk1 V c 0 t) (iblk1 V c 1 t) (iblk1 V c 2 t) (iblk1 V c 3 t) (iblk1 V c 4 t) (iblk1 V c 5 t) (iblk1 V c 6 t))
      (View.ld (iblk1 V c 6 t) r1_9) i
    = ab (hidV V c) (V c main_arg4) j := by
  unfold ab
  rw [dif_neg (by omega)]
  pointwise [k1_pay1, k1_pay5, k1_pay3, hidV, hid]
  blk_point [iblk1, idx1 t]

/-- What a point stores in the first 64 columns of the first array. -/
theorem point1lo (c : Dev nD) (t : Fin cfg1.N) (i : S400x64.Idx) (j : S10000x128.Idx)
    (h0 : (j 0 : ℕ) = t.val * 400 + i 0) (h1 : (j 1 : ℕ) = i 1) :
    k1_pay1 (F := Ideal) (k1_pay5 (iblk1 V c 0 t) (iblk1 V c 1 t) (iblk1 V c 2 t) (iblk1 V c 3 t) (iblk1 V c 4 t) (iblk1 V c 5 t) (iblk1 V c 6 t))
      (View.ld (iblk1 V c 6 t) r1_7) i
    = ab (hidV V c) (V c main_arg4) j := by
  have hi := (i 1).isLt
  change (i 1 : ℕ) < 64 at hi
  unfold ab
  rw [dif_pos (by omega)]
  pointwise [k1_pay1, k1_pay5, k1_pay3, hidV, hid]
  blk_point [iblk1, idx1 t]

/-- The first array after pass 2. -/
theorem final1ab (c : Dev nD) : (dat1 V c).arrAt 7 cfg1.N = ab (hidV V c) (V c main_arg4) := by
  refine (dat1 V c).arrAt_eq_of_covers 7 _ (by decide +kernel) fun t _ y => ?_
  blk_simp
  rw [after1_7]; unfold out1_7
  canon_tiles x h
  · refine point1hi V c t x _ ?_ ?_ <;> blk_simp [idx1 t] <;> omega
  · refine point1lo V c t x _ ?_ ?_ <;> blk_simp [idx1 t] <;> omega

/-- The second array after pass 2. -/
theorem final1d (c : Dev nD) : (dat1 V c).arrAt 8 cfg1.N = d2 (hidV V c) (V c main_arg4) := by
  refine (dat1 V c).arrAt_eq_of_covers 8 _ (by decide +kernel) fun t _ y => ?_
  blk_simp
  rw [after1_8]; frame_out
  exact point1d V c t y

end Cert.KernelIdeal.Cheb

end
-- ==== Proof.Region2.lean ====
/-
  Pass 3: the two halves of the columns of `G · A`.
-/
module

public import proofs.«01_k».proof.Proof.Gen.KernelIdeal.Frame
public import proofs.«01_k».proof.Proof.Spec

@[expose] public section

set_option maxRecDepth 16384

noncomputable section

namespace Cert.KernelIdeal.Cheb

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block sits at each of the 25 points: a row stripe, or the whole array. -/
theorem idx2 : ∀ t : Fin cfg2.N, win2_0.index t = ![t.val, 0] ∧ win2_1.index t = ![0, 0] ∧ win2_2.index t = ![t.val, 0] ∧ win2_3.index t = ![t.val, 0] :=
  (by decide +kernel : ∀ t : Fin grid2.N, _)

/-- What a point stores in the first array: the product's first 64 columns at the place of the block. -/
theorem point2a (c : Dev nD) (t : Fin cfg2.N) (y) : k2_pay2 (iblk2 V c 0 t) (iblk2 V c 1 t) y
    = u2a (V c main_call0_v3_0) (V c main_arg1) (((cfg2.win 2).blk t).view.emb y) := by
  pointwise [k2_pay2, k2_pay1, u2a]
  blk_point [iblk2, idx2 t]

/-- What a point stores in the second array: the product's last 64 columns at the place of the block. -/
theorem point2b (c : Dev nD) (t : Fin cfg2.N) (y) : k2_pay3 (iblk2 V c 0 t) (iblk2 V c 1 t) y
    = u2b (V c main_call0_v3_0) (V c main_arg1) (((cfg2.win 3).blk t).view.emb y) := by
  pointwise [k2_pay3, k2_pay1, u2b]
  blk_point [iblk2, idx2 t]

/-- The first array after pass 3. -/
theorem final2a (c : Dev nD) : (dat2 V c).arrAt 2 cfg2.N = u2a (V c main_call0_v3_0) (V c main_arg1) := by
  refine (dat2 V c).arrAt_eq_of_covers 2 _ (by decide +kernel) fun t _ y => ?_
  blk_simp
  rw [after2_2]; frame_out
  exact point2a V c t y

/-- The second array after pass 3. -/
theorem final2b (c : Dev nD) : (dat2 V c).arrAt 3 cfg2.N = u2b (V c main_call0_v3_0) (V c main_arg1) := by
  refine (dat2 V c).arrAt_eq_of_covers 3 _ (by decide +kernel) fun t _ y => ?_
  blk_simp
  rw [after2_3]; frame_out
  exact point2b V c t y

end Cert.KernelIdeal.Cheb

end
-- ==== Proof.Region3.lean ====
/-
  Pass 4: the logits and their row-wise log-softmax.
-/
module

public import proofs.«01_k».proof.Proof.Gen.KernelIdeal.Frame
public import proofs.«01_k».proof.Proof.Spec

@[expose] public section

set_option maxRecDepth 16384

noncomputable section

namespace Cert.KernelIdeal.Cheb

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block sits at each of the 25 points: a row stripe, or the whole array. -/
theorem idx3 : ∀ t : Fin cfg3.N, win3_0.index t = ![t.val, 0] ∧ win3_1.index t = ![0, 0] ∧ win3_2.index t = ![t.val, 0] ∧ win3_3.index t = ![t.val, 0]
    ∧ win3_4.index t = ![0, 0] ∧ win3_5.index t = ![t.val, 0] :=
  (by decide +kernel : ∀ t : Fin grid3.N, _)

/-- What a point stores: the log-softmax of its rows of the logits. -/
theorem point3 (c : Dev nD) (t : Fin cfg3.N) (y) : k3_pay1 (iblk3 V c 0 t) (iblk3 V c 1 t) (iblk3 V c 3 t) (iblk3 V c 2 t) (iblk3 V c 4 t) y
    = lsm (logit (V c main_arg1) (V c main_call0_v4_1) (V c main_call0_v4_0) (V c main_call0_v3_1) (V c main_call0_v1)) (((cfg3.win 5).blk t).view.emb y) := by
  pointwise [k3_pay1, lsm, rowMax, logit]
  blk_point [iblk3, idx3 t]

/-- The result array after pass 4. -/
theorem final3 (c : Dev nD) : (dat3 V c).arrAt 5 cfg3.N
    = lsm (logit (V c main_arg1) (V c main_call0_v4_1) (V c main_call0_v4_0) (V c main_call0_v3_1) (V c main_call0_v1)) := by
  refine (dat3 V c).arrAt_eq_of_covers 5 _ (by decide +kernel) fun t _ y => ?_
  blk_simp
  rw [after3_5]; frame_out
  exact point3 V c t y

end Cert.KernelIdeal.Cheb

end
-- ==== Proof.Chain.lean ====
/-
  The four passes joined: the result array as one function of the six launch arguments.
-/
module

public import proofs.«01_k».proof.Proof.Region0
public import proofs.«01_k».proof.Proof.Region1
public import proofs.«01_k».proof.Proof.Region2
public import proofs.«01_k».proof.Proof.Region3

@[expose] public section

set_option maxRecDepth 16384

noncomputable section

namespace Cert.KernelIdeal.Cheb

open Cert.KernelIdeal Cert.KernelIdeal.Gen
open Idealize.ShloMosaic Idealize.ShloMosaic.TcCoe Idealize.SL.Sem
open Idealize.ShloMosaic.Pipeline (Dat)

/-- A bias vector of 128 as a one-row array. -/
def row128 (b : FVec Ideal S128 .f32) : FVec Ideal S1x128 .f32 := fun i => b (ix1 (i 1))

/-- A bias vector of 64 as a one-row array. -/
def row64 (b : FVec Ideal S64 .f32) : FVec Ideal S1x64 .f32 := fun i => b (ix1 (i 1))

/-- The hidden layer as the kernel forms it from the arguments. -/
def kerH (X : FVec Ideal S10000x128 .f32) (G : FVec Ideal S10000x10000 .f32) (W : FVec Ideal S3x128x128 .f32)
    (b : FVec Ideal S128 .f32) : FVec Ideal S10000x128 .f32 := hid X G (t1 X G) W (row128 b)

/-- The logits as the kernel forms them from the hidden layer. -/
def kerL (H : FVec Ideal S10000x128 .f32) (G : FVec Ideal S10000x10000 .f32) (W : FVec Ideal S3x128x64 .f32)
    (b : FVec Ideal S64 .f32) : FVec Ideal S10000x64 .f32 :=
  logit G (u2b (ab H W) G) (u2a (ab H W) G) (d2 H W) (row64 b)

variable (m : (ℓ : Loc nD τ sig) → Buf (Elt Ideal) ℓ) (ρ : Dev nD → PrngReg) (c : Dev nD)

/-- The first layer's bias is laid out as a row before pass 1. -/
theorem bias1 : V1 m ρ c main_call0_v0 = row128 (m ((c : Thread nD τ).loc main_arg3)) := by
  have e : V1 m ρ c main_call0_v0 = shapeCast S1x128 (m ((c : Thread nD τ).loc main_arg3)) shapeCasts_S128_S1x128 := by
    unfold V1 W1; after_results; try rfl
  rw [e]; funext i; pointwise [row128]

/-- The second layer's bias is laid out as a row before pass 1. -/
theorem bias2 : V1 m ρ c main_call0_v1 = row64 (m ((c : Thread nD τ).loc main_arg5)) := by
  have e : V1 m ρ c main_call0_v1 = shapeCast S1x64 (m ((c : Thread nD τ).loc main_arg5)) shapeCasts_S64_S1x64 := by
    unfold V1 W1; after_results; try rfl
  rw [e]; funext i; pointwise [row64]

/-- Pass 1's array, read by pass 2. -/
theorem arr2 : V2 m ρ c main_call0_v2 = t1 (m ((c : Thread nD τ).loc main_arg0)) (m ((c : Thread nD τ).loc main_arg1)) := by
  have a0 : V1 m ρ c main_arg0 = m ((c : Thread nD τ).loc main_arg0) := W1_args m ρ c main_arg0 (by decide)
  have a1 : V1 m ρ c main_arg1 = m ((c : Thread nD τ).loc main_arg1) := W1_args m ρ c main_arg1 (by decide)
  refine (W2_arr m ρ c 2).trans ((final0 (V1 m ρ) c).trans ?_)
  rw [a0, a1]

/-- Pass 2 sees the hidden layer of the launch arguments. -/
theorem hidV2 : hidV (V2 m ρ) c = kerH (m ((c : Thread nD τ).loc main_arg0)) (m ((c : Thread nD τ).loc main_arg1))
    (m ((c : Thread nD τ).loc main_arg2)) (m ((c : Thread nD τ).loc main_arg3)) := by
  have a0 : V2 m ρ c main_arg0 = m ((c : Thread nD τ).loc main_arg0) := W2_args m ρ c main_arg0 (by decide)
  have a1 : V2 m ρ c main_arg1 = m ((c : Thread nD τ).loc main_arg1) := W2_args m ρ c main_arg1 (by decide)
  have a2 : V2 m ρ c main_arg2 = m ((c : Thread nD τ).loc main_arg2) := W2_args m ρ c main_arg2 (by decide)
  have b : V2 m ρ c main_call0_v0 = row128 (m ((c : Thread nD τ).loc main_arg3)) :=
    (W2_of m ρ c main_call0_v0 (by decide)).trans (bias1 m ρ c)
  rw [hidV, kerH, a0, a1, a2, b, arr2]

/-- Pass 2's first array, read by pass 3. -/
theorem arr3ab : V3 m ρ c main_call0_v3_0 = ab (kerH (m ((c : Thread nD τ).loc main_arg0)) (m ((c : Thread nD τ).loc main_arg1))
    (m ((c : Thread nD τ).loc main_arg2)) (m ((c : Thread nD τ).loc main_arg3))) (m ((c : Thread nD τ).loc main_arg4)) := by
  have a4 : V2 m ρ c main_arg4 = m ((c : Thread nD τ).loc main_arg4) := W2_args m ρ c main_arg4 (by decide)
  refine (W3_arr m ρ c 7).trans ((final1ab (V2 m ρ) c).trans ?_)
  rw [hidV2, a4]

/-- Pass 2's second array, read by pass 4. -/
theorem arr4d : V4 m ρ c main_call0_v3_1 = d2 (kerH (m ((c : Thread nD τ).loc main_arg0)) (m ((c : Thread nD τ).loc main_arg1))
    (m ((c : Thread nD τ).loc main_arg2)) (m ((c : Thread nD τ).loc main_arg3))) (m ((c : Thread nD τ).loc main_arg4)) := by
  have a4 : V2 m ρ c main_arg4 = m ((c : Thread nD τ).loc main_arg4) := W2_args m ρ c main_arg4 (by decide)
  refine (W4_of m ρ c main_call0_v3_1 (by decide)).trans ((W3_arr m ρ c 8).trans ((final1d (V2 m ρ) c).trans ?_))
  rw [hidV2, a4]

/-- The result array is the log-softmax of the kernel's logits. -/
theorem result : (dat3 (V4 m ρ) c).arrAt 5 cfg3.N
    = lsm (kerL (kerH (m ((c : Thread nD τ).loc main_arg0)) (m ((c : Thread nD τ).loc main_arg1))
        (m ((c : Thread nD τ).loc main_arg2)) (m ((c : Thread nD τ).loc main_arg3)))
      (m ((c : Thread nD τ).loc main_arg1)) (m ((c : Thread nD τ).loc main_arg4)) (m ((c : Thread nD τ).loc main_arg5))) := by
  have a1 : V3 m ρ c main_arg1 = m ((c : Thread nD τ).loc main_arg1) := W3_args m ρ c main_arg1 (by decide)
  have a1' : V4 m ρ c main_arg1 = m ((c : Thread nD τ).loc main_arg1) := W4_args m ρ c main_arg1 (by decide)
  have ua : V4 m ρ c main_call0_v4_0 = u2a (V3 m ρ c main_call0_v3_0) (V3 m ρ c main_arg1) := (W4_arr m ρ c 2).trans (final2a (V3 m ρ) c)
  have ub : V4 m ρ c main_call0_v4_1 = u2b (V3 m ρ c main_call0_v3_0) (V3 m ρ c main_arg1) := (W4_arr m ρ c 3).trans (final2b (V3 m ρ) c)
  have b : V4 m ρ c main_call0_v1 = row64 (m ((c : Thread nD τ).loc main_arg5)) :=
    (W4_of m ρ c main_call0_v1 (by decide)).trans ((W3_of m ρ c main_call0_v1 (by decide)).trans
      ((W2_of m ρ c main_call0_v1 (by decide)).trans (bias2 m ρ c)))
  rw [final3, a1', ua, ub, b, arr4d, arr3ab, a1, kerL]

end Cert.KernelIdeal.Cheb

end
-- ==== Proof.Reals.lean ====
/-
  Arrays of real numbers inside the extended reals, and the three identities over the reals that the claim rests on:
  a product of three matrices taken in either order, the second layer's rearrangement, and the log-softmax's.
-/
module

public import Idealize.ShloMosaic.PureOps.Ideal
public import Idealize.ShloMosaic.Lib.Pipeline.ValueKit

@[expose] public section

noncomputable section

namespace Cert.KernelIdeal.Cheb

open Idealize.ShloMosaic

/-- Every entry of the family is a real number. -/
def IsReal {ι : Type} (f : ι → EReal) : Prop := ∀ i, ∃ r : ℝ, f i = (r : EReal)

/-- A family of reals is the coercion of one. -/
theorem IsReal.lift {ι : Type} {f : ι → EReal} (h : IsReal f) : ∃ g : ι → ℝ, f = fun i => (g i : EReal) := by
  choose g hg using h
  exact ⟨g, funext hg⟩

/-- A finite sum of coerced reals is the coercion of their sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger of two coerced reals is the coercion of the larger. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The word for `2.0` is the real 2. -/
theorem two_word : Ideal.ofBits .f32 0x40000000#32 = ((2 : ℝ) : EReal) := by
  simp [Ideal.ofBits, Ideal.ieee, -EReal.coe_mul]
  try norm_num

/-- The word for `-inf` is the least extended real. -/
theorem negInf_word : Ideal.ofBits .f32 0xFF800000#32 = ⊥ := by
  simp [Ideal.ofBits, Ideal.ieee]

/-- The word for `inf` is the greatest extended real. -/
theorem inf_word : Ideal.ofBits .f32 0x7F800000#32 = ⊤ := by
  simp [Ideal.ofBits, Ideal.ieee]

/-- `g · (a · w) = (g · a) · w`, one entry. -/
theorem assoc {ι κ : Type} [Fintype ι] [Fintype κ] (g : ι → ℝ) (a : ι → κ → ℝ) (w : κ → ℝ) :
    ∑ l, g l * ∑ k, a l k * w k = ∑ k, (∑ l, g l * a l k) * w k := by
  simp only [Finset.mul_sum, Finset.sum_mul]
  rw [Finset.sum_comm]
  exact Finset.sum_congr rfl fun k _ => Finset.sum_congr rfl fun l _ => by ring

/-- The second layer: the kernel multiplies by the weights first and by the graph matrix afterwards. -/
theorem layer2 {ι κ : Type} [Fintype ι] [Fintype κ] (g : ι → ι → ℝ) (h : ι → κ → ℝ) (w0 w1 w2 : κ → ℝ) (i : ι) :
    ((∑ k, h i k * (w0 k - w2 k)) + ∑ l, g i l * ∑ k, h l k * w1 k) + 2 * (∑ l, g i l * ∑ p, g l p * ∑ k, h p k * w2 k)
      = ∑ k, ((h i k * w0 k + (∑ l, g i l * h l k) * w1 k) + (2 * (∑ l, g i l * ∑ p, g l p * h p k) - h i k) * w2 k) := by
  rw [assoc (g i) h w1]
  simp only [fun l => assoc (g l) h w2]
  rw [assoc (g i) (fun l k => ∑ p, g l p * h p k) w2, Finset.mul_sum, ← Finset.sum_add_distrib, ← Finset.sum_add_distrib]
  exact Finset.sum_congr rfl fun k _ => by ring

/-- The largest of a nonempty finite family of reals, taken from `-∞` upwards, is a real. -/
theorem fold_max_real {ι : Type} [Fintype ι] [Nonempty ι] (f : ι → ℝ) :
    ∃ r : ℝ, (Finset.univ : Finset ι).fold max (⊥ : EReal) (fun k => (f k : EReal)) = (r : EReal) := by
  have hb : (Finset.univ : Finset ι).fold max (⊥ : EReal) (fun k => (f k : EReal)) ≠ ⊥ := by
    obtain ⟨k⟩ := ‹Nonempty ι›
    exact ne_of_gt ((Finset.lt_fold_max _).2 (Or.inr ⟨k, Finset.mem_univ k, EReal.bot_lt_coe _⟩))
  have ht : (Finset.univ : Finset ι).fold max (⊥ : EReal) (fun k => (f k : EReal)) ≠ ⊤ :=
    ne_of_lt ((Finset.fold_max_lt _).2 ⟨bot_lt_top, fun k _ => EReal.coe_lt_top _⟩)
  exact ⟨_, (EReal.coe_toReal ht hb).symm⟩

/-- The log-softmax of a row of reals: subtracting `log S + m` at once, or `m` first and `log S` afterwards. -/
theorem logsoftmax {ι : Type} [Fintype ι] [Nonempty ι] (f : ι → ℝ) (l m : ℝ) :
    (l : EReal) - (Ideal.log (∑ k, Ideal.exp ((f k : EReal) - (m : EReal))) + (m : EReal))
      = ((l : EReal) - (m : EReal)) - Ideal.log (∑ k, Ideal.exp ((f k : EReal) - (m : EReal))) := by
  have hS : ∑ k, Ideal.exp ((f k : EReal) - (m : EReal)) = ((∑ k, Real.exp (f k - m) : ℝ) : EReal) := by
    rw [← sum_coe]
    exact Finset.sum_congr rfl fun k _ => by rw [← EReal.coe_sub, Ideal.exp_coe]
  have hpos : 0 < ∑ k, Real.exp (f k - m) := Finset.sum_pos (fun k _ => Real.exp_pos _) Finset.univ_nonempty
  rw [hS, Ideal.log_coe, if_neg (not_le.2 hpos), ← EReal.coe_add, ← EReal.coe_sub, ← EReal.coe_sub, ← EReal.coe_sub]
  congr 1
  ring

end Cert.KernelIdeal.Cheb

end
-- ==== Proof.RefSpec.lean ====
/-
  The reference's result as plain sums over the extended reals: the hidden layer, the logits and the log-softmax.
-/
module

public import proofs.«01_k».proof.Proof.Gen.ReferenceIdeal.Read
public import proofs.«01_k».proof.Proof.Spec

@[expose] public section

set_option maxRecDepth 16384

noncomputable section

namespace Cert.KernelIdeal.Cheb

open Cert.KernelIdeal Cert.ReferenceIdeal.Read Idealize.ShloMosaic

/-- The reference's hidden layer: one sum over the features of the three Chebyshev terms, bias, relu. -/
def refH (X : FVec Ideal S10000x128 .f32) (G : FVec Ideal S10000x10000 .f32) (W : FVec Ideal S3x128x128 .f32)
    (b : FVec Ideal S128 .f32) : FVec Ideal S10000x128 .f32 :=
  fun i => max ((∑ k : Fin 128, ((X (ix2 (i 0) k) * W (ix3 (0 : Fin 3) k (i 1)) + t1 X G (ix2 (i 0) k) * W (ix3 (1 : Fin 3) k (i 1)))
      + (Ideal.ofBits .f32 0x40000000#32 * t1 (t1 X G) G (ix2 (i 0) k) - X (ix2 (i 0) k)) * W (ix3 (2 : Fin 3) k (i 1)))) + b (ix1 (i 1))) 0

/-- The reference's logits from the hidden layer: the same with 64 columns and no relu. -/
def refL (H : FVec Ideal S10000x128 .f32) (G : FVec Ideal S10000x10000 .f32) (W : FVec Ideal S3x128x64 .f32)
    (b : FVec Ideal S64 .f32) : FVec Ideal S10000x64 .f32 :=
  fun i => (∑ k : Fin 128, ((H (ix2 (i 0) k) * W (ix3 (0 : Fin 3) k (i 1)) + t1 H G (ix2 (i 0) k) * W (ix3 (1 : Fin 3) k (i 1)))
      + (Ideal.ofBits .f32 0x40000000#32 * t1 (t1 H G) G (ix2 (i 0) k) - H (ix2 (i 0) k)) * W (ix3 (2 : Fin 3) k (i 1)))) + b (ix1 (i 1))

/-- The reference's log-softmax: the maximum subtracted first, the logarithm of the sum afterwards. -/
def refLsm (L : FVec Ideal S10000x64 .f32) : FVec Ideal S10000x64 .f32 :=
  fun i => (L i - max (Ideal.ofBits .f32 0xFF800000#32) (rowMax L (i 0)))
    - Ideal.log (∑ k : Fin 64, Ideal.exp (L (ix2 (i 0) k) - max (Ideal.ofBits .f32 0xFF800000#32) (rowMax L (i 0))))

variable (X : FVec Ideal S10000x128 .f32) (G : FVec Ideal S10000x10000 .f32) (W1 : FVec Ideal S3x128x128 .f32)
  (b1 : FVec Ideal S128 .f32) (W2 : FVec Ideal S3x128x64 .f32) (b2 : FVec Ideal S64 .f32)

/-- The value after the first layer. -/
theorem read_hidden : val_main_v13 (F := Ideal) X G W1 b1 = refH X G W1 b1 := by
  funext i
  unfold refH
  pointwise [val_main_v13, val_main_v12, val_main_v11, val_main_v10, val_main_call0_v0, val_main_call0_cst, val_main_v9, val_main_v8]
  simp only [Fin.sum_univ_three]
  pointwise [val_main_v7, val_main_v6, val_main_v5, val_main_v4, val_main_v3, val_main_v2, val_main_cst, val_main_v1, val_main_v0, t1]

/-- The value after the second layer. -/
theorem read_logits : val_main_v26 (F := Ideal) X G W1 b1 W2 b2 = refL (val_main_v13 (F := Ideal) X G W1 b1) G W2 b2 := by
  funext i
  unfold refL
  pointwise [val_main_v26, val_main_v25, val_main_v24, val_main_v23, val_main_v22]
  simp only [Fin.sum_univ_three]
  pointwise [val_main_v21, val_main_v20, val_main_v19, val_main_v18, val_main_v17, val_main_v16, val_main_cst_0, val_main_v15, val_main_v14, t1]

/-- The result. -/
theorem read_result : val_main_v27 (F := Ideal) X G W1 b1 W2 b2 = refLsm (refL (refH X G W1 b1) G W2 b2) := by
  have e : val_main_v27 (F := Ideal) X G W1 b1 W2 b2 = refLsm (val_main_v26 (F := Ideal) X G W1 b1 W2 b2) := by
    funext i
    pointwise [val_main_v27, val_main_call1_v10, val_main_call1_v9, val_main_call1_v8, val_main_call1_v7, val_main_call1_v6, val_main_call1_v5,
      val_main_call1_v4, val_main_call1_v3, val_main_call1_v2, val_main_call1_v1, val_main_call1_v0, val_main_call1_cst, val_main_call1_cst_0,
      val_main_call1_cst_1, refLsm, rowMax]
  rw [e, read_logits, read_hidden]

end Cert.KernelIdeal.Cheb

end
-- ==== Proof.Equal.lean ====
/-
  The equation: on arrays of reals the kernel's result and the reference's are the same array.
-/
module

public import proofs.«01_k».proof.Proof.Chain
public import proofs.«01_k».proof.Proof.Reals
public import proofs.«01_k».proof.Proof.RefSpec

@[expose] public section

set_option maxRecDepth 16384

noncomputable section

namespace Cert.KernelIdeal.Cheb

open Cert.KernelIdeal Idealize.ShloMosaic

variable (X : FVec Ideal S10000x128 .f32) (G : FVec Ideal S10000x10000 .f32) (W1 : FVec Ideal S3x128x128 .f32)
  (b1 : FVec Ideal S128 .f32) (W2 : FVec Ideal S3x128x64 .f32) (b2 : FVec Ideal S64 .f32)

/-- The hidden layers agree on every input: three sums over the features are one sum of three terms. -/
theorem hidden_eq : kerH X G W1 b1 = refH X G W1 b1 := by
  funext i
  unfold kerH hid refH row128
  rw [Finset.sum_add_distrib, Finset.sum_add_distrib]
  rfl

/-- The graph matrix times an array of reals is an array of reals. -/
theorem t1_real (hX : IsReal X) (hG : IsReal G) : IsReal (t1 X G) := by
  obtain ⟨x, rfl⟩ := hX.lift
  obtain ⟨g, rfl⟩ := hG.lift
  intro i
  refine ⟨∑ k : Fin 10000, g (ix2 (i 0) k) * x (ix2 k (i 1)), ?_⟩
  rw [← sum_coe]
  exact Finset.sum_congr rfl fun k _ => (EReal.coe_mul _ _).symm

/-- The hidden layer is an array of reals. -/
theorem hidden_real (hX : IsReal X) (hG : IsReal G) (hW : IsReal W1) (hb : IsReal b1) : IsReal (refH X G W1 b1) := by
  have hT := t1_real X G hX hG
  obtain ⟨u, hu⟩ := (t1_real (t1 X G) G hT hG).lift
  obtain ⟨t, ht⟩ := hT.lift
  unfold refH
  rw [hu, ht]
  obtain ⟨x, rfl⟩ := hX.lift
  obtain ⟨w, rfl⟩ := hW.lift
  obtain ⟨b, rfl⟩ := hb.lift
  intro i
  simp only [two_word, ← EReal.coe_mul, ← EReal.coe_sub, ← EReal.coe_add, sum_coe, ← EReal.coe_zero, max_coe]
  exact ⟨_, rfl⟩

/-- Column `q` of the first 64 columns of pass 2's first array. -/
theorem ab_lo (H : FVec Ideal S10000x128 .f32) (r : Fin 10000) (q : Fin 64) (hq : (q : ℕ) < 128) :
    ab H W2 (ix2 r ⟨q, hq⟩) = ∑ k : Fin 128, H (ix2 r k) * W2 (ix3 (1 : Fin 3) k q) :=
  dif_pos (show (q : ℕ) < 64 from q.isLt)

/-- Column `q` of the last 64 columns of pass 2's first array. -/
theorem ab_hi (H : FVec Ideal S10000x128 .f32) (r : Fin 10000) (q : Fin 64) (hq : 64 + (q : ℕ) < 128) :
    ab H W2 (ix2 r ⟨64 + q, hq⟩) = ∑ k : Fin 128, H (ix2 r k) * W2 (ix3 (2 : Fin 3) k q) := by
  refine (dif_neg (show ¬ 64 + (q : ℕ) < 64 by omega)).trans ?_
  refine Finset.sum_congr rfl fun k _ => ?_
  congr 3
  exact Fin.ext (show 64 + (q : ℕ) - 64 = q by omega)

/-- The logits agree on a hidden layer, a graph matrix and weights of reals. -/
theorem logits_eq (H : FVec Ideal S10000x128 .f32) (hH : IsReal H) (hG : IsReal G) (hW : IsReal W2) :
    kerL H G W2 b2 = refL H G W2 b2 := by
  funext i
  have ea : u2a (ab H W2) G i = ∑ l : Fin 10000, G (ix2 (i 0) l) * ∑ k : Fin 128, H (ix2 l k) * W2 (ix3 (1 : Fin 3) k (i 1)) :=
    Finset.sum_congr rfl fun l _ => congrArg (G (ix2 (i 0) l) * ·) (ab_lo W2 H l (i 1) _)
  have eb : ∀ l : Fin 10000, u2b (ab H W2) G (ix2 l (i 1)) = ∑ p : Fin 10000, G (ix2 l p) * ∑ k : Fin 128, H (ix2 p k) * W2 (ix3 (2 : Fin 3) k (i 1)) :=
    fun l => Finset.sum_congr rfl fun p _ => congrArg (G (ix2 l p) * ·) (ab_hi W2 H p (i 1) _)
  have ek : kerL H G W2 b2 i = (((∑ k : Fin 128, H (ix2 (i 0) k) * (W2 (ix3 (0 : Fin 3) k (i 1)) - W2 (ix3 (2 : Fin 3) k (i 1))))
        + ∑ l : Fin 10000, G (ix2 (i 0) l) * ∑ k : Fin 128, H (ix2 l k) * W2 (ix3 (1 : Fin 3) k (i 1)))
      + Ideal.ofBits .f32 0x40000000#32 * (∑ l : Fin 10000, G (ix2 (i 0) l) * ∑ p : Fin 10000, G (ix2 l p) * ∑ k : Fin 128, H (ix2 p k) * W2 (ix3 (2 : Fin 3) k (i 1))))
      + b2 (ix1 (i 1)) := by
    rw [← ea]
    simp only [← eb]
    rfl
  have er : refL H G W2 b2 i = (∑ k : Fin 128, ((H (ix2 (i 0) k) * W2 (ix3 (0 : Fin 3) k (i 1))
        + (∑ l : Fin 10000, G (ix2 (i 0) l) * H (ix2 l k)) * W2 (ix3 (1 : Fin 3) k (i 1)))
      + (Ideal.ofBits .f32 0x40000000#32 * (∑ l : Fin 10000, G (ix2 (i 0) l) * ∑ p : Fin 10000, G (ix2 l p) * H (ix2 p k)) - H (ix2 (i 0) k))
        * W2 (ix3 (2 : Fin 3) k (i 1)))) + b2 (ix1 (i 1)) := rfl
  rw [ek, er]
  congr 1
  obtain ⟨h, rfl⟩ := hH.lift
  obtain ⟨g, rfl⟩ := hG.lift
  obtain ⟨w, rfl⟩ := hW.lift
  simp only [two_word, ← EReal.coe_mul, ← EReal.coe_sub, ← EReal.coe_add, sum_coe]
  exact congrArg _ (layer2 (fun l p => g (ix2 l p)) (fun p k => h (ix2 p k)) (fun k => w (ix3 (0 : Fin 3) k (i 1)))
    (fun k => w (ix3 (1 : Fin 3) k (i 1))) (fun k => w (ix3 (2 : Fin 3) k (i 1))) (i 0))

/-- The reference's logits are reals. -/
theorem logits_real (H : FVec Ideal S10000x128 .f32) (hH : IsReal H) (hG : IsReal G) (hW : IsReal W2) (hb : IsReal b2) :
    IsReal (refL H G W2 b2) := by
  have hT := t1_real H G hH hG
  obtain ⟨u, hu⟩ := (t1_real (t1 H G) G hT hG).lift
  obtain ⟨t, ht⟩ := hT.lift
  unfold refL
  rw [hu, ht]
  obtain ⟨h, rfl⟩ := hH.lift
  obtain ⟨w, rfl⟩ := hW.lift
  obtain ⟨b, rfl⟩ := hb.lift
  intro i
  simp only [two_word, ← EReal.coe_mul, ← EReal.coe_sub, ← EReal.coe_add, sum_coe]
  exact ⟨_, rfl⟩

/-- The two log-softmaxes agree on logits that are reals. -/
theorem lsm_eq (L : FVec Ideal S10000x64 .f32) (hL : IsReal L) : lsm L = refLsm L := by
  funext i
  unfold lsm refLsm
  rw [negInf_word, max_eq_right bot_le]
  obtain ⟨l, rfl⟩ := hL.lift
  have hm : ∃ m : ℝ, rowMax (fun j => (l j : EReal)) (i 0) = (m : EReal) := by
    unfold rowMax
    rw [negInf_word]
    exact fold_max_real fun k : Fin 64 => l (ix2 (i 0) k)
  obtain ⟨m, hm⟩ := hm
  rw [hm]
  exact logsoftmax (fun k : Fin 64 => l (ix2 (i 0) k)) (l i) m

/-- The kernel's result is the reference's on arguments that are reals. -/
theorem result_eq (hX : IsReal X) (hG : IsReal G) (hW1 : IsReal W1) (hb1 : IsReal b1) (hW2 : IsReal W2) (hb2 : IsReal b2) :
    lsm (kerL (kerH X G W1 b1) G W2 b2) = refLsm (refL (refH X G W1 b1) G W2 b2) := by
  have hH := hidden_real X G W1 b1 hX hG hW1 hb1
  rw [hidden_eq, logits_eq G W2 b2 _ hH hG hW2, lsm_eq _ (logits_real G W2 b2 _ hH hG hW2 hb2)]

end Cert.KernelIdeal.Cheb

end
-- ==== Proof.Finite.lean ====
/-
  What the precondition says of the six arguments: every entry is a real number.
-/
module

public import proofs.«01_k».proof.Defs
public import proofs.«01_k».proof.Proof.Gen.Pre_finite
public import proofs.«01_k».proof.Proof.Reals

@[expose] public section

set_option maxRecDepth 16384

noncomputable section

namespace Cert.KernelIdeal.Cheb

open Cert.KernelIdeal Idealize.ShloMosaic

/-- An extended real whose absolute value is below `+∞` is a real. -/
theorem real_of_abs_lt (a : EReal) (h : max a (-a) < ⊤) : ∃ r : ℝ, a = (r : EReal) := by
  have ht : a ≠ ⊤ := ne_of_lt ((le_max_left _ _).trans_lt h)
  have hb : a ≠ ⊥ := by
    rintro rfl
    exact absurd ((le_max_right _ _).trans_lt h) (by simp)
  exact ⟨_, (EReal.coe_toReal ht hb).symm⟩

/-- An array that passes the test `|a| < +∞` at every entry is an array of reals. -/
theorem isReal_of_test {s : Shape} (a : FVec Ideal s .f32) (dims : Fin 0 → Fin s.rank)
    (hB : (⟨0, ![]⟩ : Shape).BroadcastsInDim s dims)
    (h : cmpf .olt (Host.absf a) (broadcastInDim s dims hB (constant (F := Ideal) ⟨0, ![]⟩ .f32 0x7F800000#32)) = fun _ => 1#1) :
    IsReal a := by
  intro i
  have hi := congrFun h i
  refine real_of_abs_lt _ ?_
  have e : cmpf .olt (Host.absf a) (broadcastInDim s dims hB (constant (F := Ideal) ⟨0, ![]⟩ .f32 0x7F800000#32)) i
      = Ideal.cmp .olt (max (a i) (-(a i))) (Ideal.ofBits .f32 0x7F800000#32) := rfl
  rw [e, inf_word] at hi
  by_contra hn
  simp [Ideal.cmp, hn] at hi

/-- Under the precondition every entry of every argument is a real. -/
theorem args_real (m : (ℓ : Loc nD τ sig) → Buf (Elt Ideal) ℓ) (h : Cert.Pre_KernelIdeal_finite m) (c : Dev nD) :
    IsReal (m ((c.tc : Thread nD τ).loc main_arg0)) ∧ IsReal (m ((c.tc : Thread nD τ).loc main_arg1))
    ∧ IsReal (m ((c.tc : Thread nD τ).loc main_arg2)) ∧ IsReal (m ((c.tc : Thread nD τ).loc main_arg3))
    ∧ IsReal (m ((c.tc : Thread nD τ).loc main_arg4)) ∧ IsReal (m ((c.tc : Thread nD τ).loc main_arg5)) := by
  obtain ⟨h0, h1, h2, h3, h4, h5⟩ := h c
  exact ⟨isReal_of_test _ _ _ h0, isReal_of_test _ _ _ h1, isReal_of_test _ _ _ h2, isReal_of_test _ _ _ h3,
    isReal_of_test _ _ _ h4, isReal_of_test _ _ _ h5⟩

end Cert.KernelIdeal.Cheb

end
-- ==== Proof.lean ====
/-
  The certificate's proof. Each pass's array comes from Region0 … Region3, Chain joins them over the launch arguments,
  RefSpec reads the reference, Equal has the equation between the two, Finite reads the precondition; this module
  assembles them with the runs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.Pre_finite
public import Idealize.ShloMosaic.Lib.Quiescent
public import proofs.«01_k».proof.Proof.Gen.ReferenceIdeal.Run
public import proofs.«01_k».proof.Proof.Gen.ReferenceIdeal.Read
public import proofs.«01_k».proof.Proof.KernelRun
public import proofs.«01_k».proof.Proof.Equal
public import proofs.«01_k».proof.Proof.Finite

@[expose] public section

noncomputable section

namespace Cert.Proof

open Idealize.ShloMosaic Idealize.SL.Sem

/-- The reference runs, keeps its arguments, and declares no semaphore whose counter could differ from zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite arguments the kernel's result and the reference's are the same array, the arguments unchanged. -/
theorem algebraic : Cert.algebraic_KernelIdeal_ReferenceIdeal_pre_finite := by
  intro m g m' g' hpre hagree
  refine ⟨_, Cert.KernelIdeal.ChebRun.run m g,
    (θ_run Cert.ReferenceIdeal.defs _ _).mono (fun r h c => ⟨?_, (h c).2⟩) (Cert.ReferenceIdeal.Value.run (F := Ideal) m' g')⟩
  obtain ⟨e0, e1, e2, e3, e4, e5⟩ := hagree c
  obtain ⟨r0, r1, r2, r3, r4, r5⟩ := Cert.KernelIdeal.Cheb.args_real m hpre c
  refine (h c).1.trans ?_
  rw [Cert.ReferenceIdeal.Read.val_main_v27_eq, e0, e1, e2, e3, e4, e5]
  exact (Cert.KernelIdeal.Cheb.read_result _ _ _ _ _ _).trans
    ((Cert.KernelIdeal.Cheb.result_eq _ _ _ _ _ _ r0 r1 r2 r3 r4 r5).symm.trans (Cert.KernelIdeal.Cheb.result m g c).symm)

/-- All the claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, algebraic⟩

end Cert.Proof

end
